-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S131072x512 : Shape := ⟨2, ![131072, 512]⟩
abbrev S64x512 : Shape := ⟨2, ![64, 512]⟩
abbrev S64x1 : Shape := ⟨2, ![64, 1]⟩
abbrev S64 : Shape := ⟨1, ![64]⟩
abbrev S_ : Shape := ⟨0, ![]⟩

class Facts : Prop where
  bcast_S_S131072x512 : S_.BroadcastsInDim S131072x512 (![] : Fin 0 → Fin S131072x512.rank)
  bcast_S_S64x1 : S_.BroadcastsInDim S64x1 (![] : Fin 0 → Fin S64x1.rank)
  bcast_S_S64x512 : S_.BroadcastsInDim S64x512 (![] : Fin 0 → Fin S64x512.rank)
  reducesTo_S64x512_S64_d1 : S64x512.ReducesTo [1] S64
  h_S_ : 0 < S_.numel

variable [Facts]

def fn {F : FTy → Type} [FloatOps F] (main_arg0 : FVec F S131072x512 .f32) (main_arg1 : FVec F S64x512 .f32) (main_arg2 : FVec F S64x1 .f32) (main_arg3 : FVec F S64 .f32) : IVec S131072x512 1 × IVec S64x1 1 × IVec S64 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_cst_0 : FVec F S_ .f32 := constant S_ .f32 0x7F800000#32
  let main_v3 : FVec F S64x1 .f32 := broadcastInDim S64x1 ![] bcast_S_S64x1 main_cst_0
  let main_v4 : IVec S64x1 1 := cmpf .olt main_arg2 main_v3
  let main_cst_1 : FVec F S_ .f32 := constant S_ .f32 0x00000000#32
  let main_v5 : FVec F S64x512 .f32 := broadcastInDim S64x512 ![] bcast_S_S64x512 main_cst_1
  let main_v6 : IVec S64x512 1 := cmpf .une main_arg1 main_v5
  let main_c : IVec S_ 1 := constantI S_ 1 0#1
  let main_v7 : IVec S64 1 := (fun x v => Host.reduce IntOp.ori x v reducesTo_S64x512_S64_d1 h_S_) main_v6 main_c
  (main_v2, main_v4, main_v7)
-- ==== Kernel.lean ====
abbrev S131072x512 : Shape := ⟨2, ![131072, 512]⟩
abbrev S64x512 : Shape := ⟨2, ![64, 512]⟩
abbrev S64x1 : Shape := ⟨2, ![64, 1]⟩
abbrev S64 : Shape := ⟨1, ![64]⟩
abbrev S131072 : Shape := ⟨1, ![131072]⟩
abbrev S8192x512 : Shape := ⟨2, ![8192, 512]⟩
abbrev S8192 : Shape := ⟨1, ![8192]⟩
abbrev S1 : Shape := ⟨1, ![1]⟩
abbrev S1x1 : Shape := ⟨2, ![1, 1]⟩
abbrev S8192x64 : Shape := ⟨2, ![8192, 64]⟩
abbrev S64x8192 : Shape := ⟨2, ![64, 8192]⟩
abbrev S1x8192 : Shape := ⟨2, ![1, 8192]⟩

abbrev nBuf : Space → Nat
  | .hbm => 6
  | .vmem => 7
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S64x1, .f32⟩
  | .hbm, ⟨3, _⟩ => ⟨S64, .f32⟩
  | .hbm, ⟨4, _⟩ => ⟨S64x1, .f32⟩
  | .hbm, ⟨5, _⟩ => ⟨S131072, .f32⟩
  | .local _ .vmem, ⟨0, _⟩ => ⟨S8192x512, .f32⟩
  | .local _ .vmem, ⟨1, _⟩ => ⟨S8192x512, .f32⟩
  | .local _ .vmem, ⟨2, _⟩ => ⟨S64x512, .f32⟩
  | .local _ .vmem, ⟨3, _⟩ => ⟨S64x1, .f32⟩
  | .local _ .vmem, ⟨4, _⟩ => ⟨S64x1, .f32⟩
  | .local _ .vmem, ⟨5, _⟩ => ⟨S8192, .f32⟩
  | .local _ .vmem, ⟨6, _⟩ => ⟨S8192, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S131072x512 : Shape := ⟨2, ![131072, 512]⟩
abbrev S64x512 : Shape := ⟨2, ![64, 512]⟩
abbrev S64x1 : Shape := ⟨2, ![64, 1]⟩
abbrev S64 : Shape := ⟨1, ![64]⟩
abbrev S_ : Shape := ⟨0, ![]⟩
abbrev S512x64 : Shape := ⟨2, ![512, 64]⟩
abbrev S131072x64 : Shape := ⟨2, ![131072, 64]⟩
abbrev S1x64 : Shape := ⟨2, ![1, 64]⟩
abbrev S1 : Shape := ⟨1, ![1]⟩
abbrev S131072 : Shape := ⟨1, ![131072]⟩
abbrev S131072x1 : Shape := ⟨2, ![131072, 1]⟩

abbrev nBuf : Space → Nat
  | .hbm => 98
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S64x1, .f32⟩
  | .hbm, ⟨3, _⟩ => ⟨S64, .f32⟩
  | .hbm, ⟨4, _⟩ => ⟨S64x512, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S64x1, .f32⟩
  | .hbm, ⟨9, _⟩ => ⟨S64x512, .f32⟩
  | .hbm, ⟨10, _⟩ => ⟨S64x512, .f32⟩
  | .hbm, ⟨11, _⟩ => ⟨S64x1, .f32⟩
  | .hbm, ⟨12, _⟩ => ⟨S64, .f32⟩
  | .hbm, ⟨13, _⟩ => ⟨S512x64, .f32⟩
  | .hbm, ⟨14, _⟩ => ⟨S131072x64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S131072x64, .f32⟩
  | .hbm, ⟨59, _⟩ => ⟨S131072x64, .f32⟩
  | .hbm, ⟨60, _⟩ => ⟨S1x64, .f32⟩
  | .hbm, ⟨61, _⟩ => ⟨S131072x64, .f32⟩
  | .hbm, ⟨62, _⟩ => ⟨S131072x64, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S64, .f32⟩
  | .hbm, ⟨75, _⟩ => ⟨S64, .f32⟩
  | .hbm, ⟨76, _⟩ => ⟨S64, .f32⟩
  | .hbm, ⟨77, _⟩ => ⟨S1x64, .f32⟩
  | .hbm, ⟨78, _⟩ => ⟨S131072x64, .f32⟩
  | .hbm, ⟨79, _⟩ => ⟨S131072x64, .f32⟩
  | .hbm, ⟨80, _⟩ => ⟨S_, .f32⟩
  | .hbm, ⟨81, _⟩ => ⟨S131072, .f32⟩
  | .hbm, ⟨82, _⟩ => ⟨S131072, .f32⟩
  | .hbm, ⟨83, _⟩ => ⟨S_, .f32⟩
  | .hbm, ⟨84, _⟩ => ⟨S131072, .f32⟩
  | .hbm, ⟨85, _⟩ => ⟨S131072, .i1⟩
  | .hbm, ⟨86, _⟩ => ⟨S_, .f32⟩
  | .hbm, ⟨87, _⟩ => ⟨S_, .f32⟩
  | .hbm, ⟨88, _⟩ => ⟨S131072, .f32⟩
  | .hbm, ⟨89, _⟩ => ⟨S131072, .f32⟩
  | .hbm, ⟨90, _⟩ => ⟨S131072x1, .f32⟩
  | .hbm, ⟨91, _⟩ => ⟨S131072x64, .f32⟩
  | .hbm, ⟨92, _⟩ => ⟨S131072x64, .f32⟩
  | .hbm, ⟨93, _⟩ => ⟨S131072x64, .f32⟩
  | .hbm, ⟨94, _⟩ => ⟨S_, .f32⟩
  | .hbm, ⟨95, _⟩ => ⟨S131072, .f32⟩
  | .hbm, ⟨96, _⟩ => ⟨S131072, .f32⟩
  | .hbm, ⟨97, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Proof.Mixture.lean ====
/- The mathematics of the certificate: the log density of a von Mises-Fisher mixture on the sphere in 512 dimensions, as
   functions of extended reals. A mode has a location `u` (projected onto the sphere), a log concentration and a logit; a
   point `x` has a score under each of the 64 modes, and the density is the log of the sum of the scores' exponentials.
   The kernel and the reference write two steps differently, so those two have a name each: the score (`score` adds
   `log weight - log norm` last, `scoreRef` subtracts the norm first), and the log of the sum of exponentials (`lse`
   shifts by the largest score, `lseRef` only where that is finite). -/
module

public import Idealize.ShloMosaic.PureOps.Ideal.Laws

@[expose] public section

noncomputable section

namespace Cert.Vmf

open Idealize.ShloMosaic

/-- The order of the Bessel function, `512 / 2 - 1`, and the power of the concentration: 255. -/
abbrev order : EReal := Ideal.ofBits .f32 0x437F0000#32
/-- One. -/
abbrev one : EReal := Ideal.ofBits .f32 0x3F800000#32
/-- `2 π` times the order, as rounded to f32 (1602.21228). -/
abbrev turns : EReal := Ideal.ofBits .f32 0x44C846CB#32
/-- One half. -/
abbrev half : EReal := Ideal.ofBits .f32 0x3F000000#32
/-- One quarter. -/
abbrev quarter : EReal := Ideal.ofBits .f32 0x3E800000#32
/-- `256 log (2 π)`, as rounded to f32 (470.496521). -/
abbrev sphere : EReal := Ideal.ofBits .f32 0x43EB3F8E#32

/-- The Euclidean length of a location. -/
def len (u : Fin 512 → EReal) : EReal := Ideal.sqrt (∑ d, u d * u d)

/-- Coordinate `d` of the location projected onto the sphere. -/
def unit (u : Fin 512 → EReal) (d : Fin 512) : EReal := Ideal.div (u d) (len u)

/-- The inner product of a point with a projected location. -/
def dot (x u : Fin 512 → EReal) : EReal := ∑ d, x d * unit u d

/-- The concentration over the order: the argument of the uniform expansion. -/
def ratio (κ : EReal) : EReal := Ideal.div κ order

/-- The root in the uniform expansion. -/
def root (κ : EReal) : EReal := Ideal.sqrt (one + ratio κ * ratio κ)

/-- The log of the exponentially scaled modified Bessel function, by its expansion for a large order. -/
def logIve (κ : EReal) : EReal :=
  order * (root κ + Ideal.log (ratio κ) - Ideal.log (one + root κ)) - half * Ideal.log turns
    - quarter * Ideal.log1p (ratio κ * ratio κ) - κ

/-- The log of the density's normaliser, before its sign is changed. -/
def negLogNorm (κ : EReal) : EReal := order * Ideal.log κ - sphere - (κ + logIve κ)

/-- The largest of 64 values. -/
def top (p : Fin 64 → EReal) : EReal := Finset.univ.fold max ⊥ p

/-- The log of mode `j`'s weight: the softmax of the logits. -/
def logWeight (l : Fin 64 → EReal) (j : Fin 64) : EReal :=
  Ideal.log (Ideal.div (Ideal.exp (l j - top l)) (∑ k, Ideal.exp (l k - top l)))

/-- A point's score under mode `j`, in the kernel's order: `κ · (x · u) + (log weight - log norm)`. -/
def score (x : Fin 512 → EReal) (u : Fin 64 → Fin 512 → EReal) (s l : Fin 64 → EReal) (j : Fin 64) : EReal :=
  Ideal.exp (s j) * dot x (u j) + (logWeight l j - -negLogNorm (Ideal.exp (s j)))

/-- The same score in the reference's order: `(κ · (x · u) - log norm) + log weight`. -/
def scoreRef (x : Fin 512 → EReal) (u : Fin 64 → Fin 512 → EReal) (s l : Fin 64 → EReal) (j : Fin 64) : EReal :=
  Ideal.exp (s j) * dot x (u j) - -negLogNorm (Ideal.exp (s j)) + logWeight l j

/-- The log of the sum of exponentials, shifted by the largest value. -/
def lse (p : Fin 64 → EReal) : EReal := top p + Ideal.log (∑ j, Ideal.exp (p j - top p))

/-- The shift the reference takes: the largest value where it is finite, else zero. -/
def shift (p : Fin 64 → EReal) : EReal := if max (top p) (-top p) < ⊤ then top p else 0

/-- The log of the sum of exponentials, shifted by the largest value where that is finite. -/
def lseRef (p : Fin 64 → EReal) : EReal := Ideal.log (∑ j, Ideal.exp (p j - shift p)) + shift p

/-- The kernel's log density of a point under the mixture. -/
def density (x : Fin 512 → EReal) (u : Fin 64 → Fin 512 → EReal) (s l : Fin 64 → EReal) : EReal :=
  lse (score x u s l)

/-- The reference's log density of a point under the mixture. -/
def densityRef (x : Fin 512 → EReal) (u : Fin 64 → Fin 512 → EReal) (s l : Fin 64 → EReal) : EReal :=
  lseRef (scoreRef x u s l)

end Cert.Vmf

end
-- ==== Proof.Equation.lean ====
/- The equation of the certificate, over the extended reals: on the domain (finite points, log concentrations below `+∞`,
   no location zero) the kernel's log density is the reference's. Every score is then below `+∞`, which is what the
   kernel's unguarded shift by the largest score needs. -/
module

public import proofs.«01_k».proof.Proof.Mixture

@[expose] public section

noncomputable section

namespace Cert.Vmf

open Idealize.ShloMosaic

/-! ## The literals are positive reals -/

theorem order_eq : order = ((255 : ℝ) : EReal) := by simp [order, Ideal.ofBits, Ideal.ieee, -EReal.coe_mul]; norm_num

theorem one_eq : one = ((1 : ℝ) : EReal) := by simp [one, Ideal.ofBits, Ideal.ieee, -EReal.coe_mul]; norm_num

theorem turns_eq : turns = ((13125323 / 8192 : ℝ) : EReal) := by
  simp [turns, Ideal.ofBits, Ideal.ieee, -EReal.coe_mul]; norm_num

theorem half_eq : half = ((1 / 2 : ℝ) : EReal) := by simp [half, Ideal.ofBits, Ideal.ieee, -EReal.coe_mul]; norm_num

theorem quarter_eq : quarter = ((1 / 4 : ℝ) : EReal) := by
  simp [quarter, Ideal.ofBits, Ideal.ieee, -EReal.coe_mul]; norm_num

theorem sphere_eq : sphere = ((7708615 / 16384 : ℝ) : EReal) := by
  simp [sphere, Ideal.ofBits, Ideal.ieee, -EReal.coe_mul]; norm_num

/-! ## Where the operations stay real -/

/-- The log of a positive real is real. -/
theorem log_of_pos {r : ℝ} (h : 0 < r) : Ideal.log (r : EReal) = ((Real.log r : ℝ) : EReal) := by
  rw [Ideal.log_coe, if_neg h.not_ge]

/-- The root of a nonnegative real is real. -/
theorem sqrt_of_nonneg {r : ℝ} (h : 0 ≤ r) : Ideal.sqrt (r : EReal) = ((Real.sqrt r : ℝ) : EReal) := by
  rw [Ideal.sqrt_coe, if_neg h.not_gt]

/-- The quotient of a real by a nonzero real is real. -/
theorem div_of_ne {a b : ℝ} (h : b ≠ 0) : Ideal.div (a : EReal) (b : EReal) = ((a * (1 / b) : ℝ) : EReal) := by
  rw [Ideal.div_coe h, EReal.coe_mul]

/-- An extended real below `+∞` in absolute value is real. -/
theorem real_of_abs_lt {x : EReal} (h : max x (-x) < ⊤) : ∃ r : ℝ, x = r := by
  induction x with
  | bot => simp at h
  | top => simp at h
  | coe r => exact ⟨r, rfl⟩

/-- The sum of reals, read in the extended reals, is the sum there. -/
theorem coe_sum {ι : Type} (s : Finset ι) (g : ι → ℝ) : ((∑ i ∈ s, g i : ℝ) : EReal) = ∑ i ∈ s, (g i : EReal) := by
  induction s using Finset.cons_induction with
  | empty => simp
  | cons a s ha ih => rw [Finset.sum_cons, Finset.sum_cons, EReal.coe_add, ih]

/-- A sum of reals, term by term, is real. -/
theorem sum_real {ι : Type} (s : Finset ι) (f : ι → EReal) (h : ∀ i, ∃ r : ℝ, f i = r) : ∃ r : ℝ, ∑ i ∈ s, f i = r := by
  choose g hg using h
  exact ⟨∑ i ∈ s, g i, by rw [Finset.sum_congr rfl fun i _ => hg i, ← coe_sum]⟩

/-- The exponential of anything below `+∞` is a nonnegative real. -/
theorem exp_real {s : EReal} (h : s < ⊤) : ∃ r : ℝ, 0 ≤ r ∧ Ideal.exp s = r := by
  induction s with
  | bot => exact ⟨0, le_rfl, by simp⟩
  | top => exact absurd h (lt_irrefl _)
  | coe r => exact ⟨Real.exp r, (Real.exp_pos r).le, by simp⟩

/-! ## A location that is not zero projects to a real vector -/

/-- A square is not negative. -/
theorem sq_nonneg (x : EReal) : 0 ≤ x * x := by
  induction x with
  | bot => simp
  | top => simp
  | coe r => exact_mod_cast mul_self_nonneg r

/-- Each coordinate of a nonzero location, over its length, is real: an infinite coordinate makes the length infinite and
    every quotient zero; else the length is a positive real. -/
theorem unit_real {u : Fin 512 → EReal} (h : ∃ d, u d ≠ 0) (d : Fin 512) : ∃ r : ℝ, unit u d = r := by
  have hle (e : Fin 512) : u e * u e ≤ ∑ d, u d * u d :=
    Finset.single_le_sum (f := fun d => u d * u d) (fun i _ => sq_nonneg _) (Finset.mem_univ e)
  by_cases hinf : ∃ e, u e * u e = ⊤
  · obtain ⟨e, he⟩ := hinf
    have hs : ∑ d, u d * u d = ⊤ := top_le_iff.mp (he ▸ hle e)
    exact ⟨0, by rw [unit, len, hs]; simp [Ideal.div]⟩
  · push Not at hinf
    have hr (e : Fin 512) : ∃ r : ℝ, u e = r := by
      have := hinf e
      generalize u e = x at this
      induction x with
      | bot => simp at this
      | top => simp at this
      | coe r => exact ⟨r, rfl⟩
    choose g hg using hr
    obtain ⟨e, he⟩ := h
    have hs : ∑ d, u d * u d = ((∑ d, g d * g d : ℝ) : EReal) := by
      rw [coe_sum]; exact Finset.sum_congr rfl fun i _ => by rw [hg i, EReal.coe_mul]
    have hge : g e ≠ 0 := fun h0 => he (by rw [hg e, h0]; rfl)
    have hpos : 0 < ∑ d, g d * g d :=
      lt_of_lt_of_le (mul_self_pos.mpr hge)
        (Finset.single_le_sum (f := fun d => g d * g d) (fun i _ => mul_self_nonneg _) (Finset.mem_univ e))
    rw [unit, len, hs, sqrt_of_nonneg hpos.le, hg d, div_of_ne (Real.sqrt_pos.mpr hpos).ne']
    exact ⟨_, rfl⟩

/-- So a finite point's inner product with it is real. -/
theorem dot_real {x u : Fin 512 → EReal} (hx : ∀ d, max (x d) (-x d) < ⊤) (hu : ∃ d, u d ≠ 0) : ∃ r : ℝ, dot x u = r :=
  sum_real _ _ fun d => by
    obtain ⟨a, ha⟩ := real_of_abs_lt (hx d)
    obtain ⟨b, hb⟩ := unit_real hu d
    exact ⟨a * b, by rw [ha, hb, EReal.coe_mul]⟩

/-! ## The normaliser and the weights are below `+∞` -/

/-- The log normaliser of a concentration in `[0, ∞)` is below `+∞`: at zero it is `-∞`, above it every step is real. -/
theorem negLogNorm_lt_top {κ : ℝ} (h : 0 ≤ κ) : negLogNorm κ < ⊤ := by
  rcases h.eq_or_lt with rfl | hpos
  · have h0 : Ideal.log ((0 : ℝ) : EReal) = ⊥ := by rw [Ideal.log_coe, if_pos le_rfl]
    rw [negLogNorm, h0, order_eq, EReal.coe_mul_bot_of_pos (by norm_num)]
    simp
  · have hz : ratio κ = ((κ * (1 / 255) : ℝ) : EReal) := by rw [ratio, order_eq, div_of_ne (by norm_num)]
    have hz0 : 0 < κ * (1 / 255) := by positivity
    have hq : root κ = ((Real.sqrt (1 + κ * (1 / 255) * (κ * (1 / 255))) : ℝ) : EReal) := by
      rw [root, hz, one_eq, ← EReal.coe_mul, ← EReal.coe_add, sqrt_of_nonneg (by positivity)]
    have hs : 0 < 1 + Real.sqrt (1 + κ * (1 / 255) * (κ * (1 / 255))) := by positivity
    have hl : Ideal.log1p (ratio κ * ratio κ) = ((Real.log (1 + κ * (1 / 255) * (κ * (1 / 255))) : ℝ) : EReal) := by
      rw [Ideal.log1p, hz, ← EReal.coe_mul, ← EReal.coe_one, ← EReal.coe_add, log_of_pos (by positivity)]
    rw [negLogNorm, logIve, hl, hq, hz, order_eq, one_eq, turns_eq, half_eq, quarter_eq, sphere_eq, log_of_pos hpos,
      log_of_pos hz0, ← EReal.coe_add, ← EReal.coe_add, log_of_pos hs, log_of_pos (by norm_num)]
    simp only [← EReal.coe_mul, ← EReal.coe_add, ← EReal.coe_sub]
    exact EReal.coe_lt_top _

/-- A value is at most the largest. -/
theorem le_top (p : Fin 64 → EReal) (j : Fin 64) : p j ≤ top p :=
  (Finset.fold_max_le (top p)).mp le_rfl |>.2 j (Finset.mem_univ j)

/-- The largest of values below `+∞` is. -/
theorem top_lt {p : Fin 64 → EReal} (h : ∀ j, p j < ⊤) : top p < ⊤ :=
  (Finset.fold_max_lt ⊤).mpr ⟨bot_lt_top, fun j _ => h j⟩

/-- The difference of a value and one no smaller is below `+∞`. -/
theorem sub_lt_of_le {a b : EReal} (h : a ≤ b) : a - b < ⊤ := by
  induction b with
  | bot => rw [le_bot_iff.mp h]; simp
  | top => simp
  | coe r =>
    induction a with
    | bot => simp
    | top => simp at h
    | coe q => rw [← EReal.coe_sub]; exact EReal.coe_lt_top _

/-- The log of a weight is below `+∞`, whatever the logits: the exponentials are nonnegative reals, and if they sum to zero
    the quotient is `0 / 0`, read as `-∞`. -/
theorem logWeight_lt_top (l : Fin 64 → EReal) (j : Fin 64) : logWeight l j < ⊤ := by
  choose g hg0 hg using fun k => exp_real (sub_lt_of_le (le_top l k))
  have hs : ∑ k, Ideal.exp (l k - top l) = ((∑ k, g k : ℝ) : EReal) := by
    rw [coe_sum]; exact Finset.sum_congr rfl fun k _ => hg k
  rw [logWeight, hs, hg j]
  by_cases h0 : ∑ k, g k = 0
  · have hj : g j = 0 := (Finset.sum_eq_zero_iff_of_nonneg fun k _ => hg0 k).mp h0 j (Finset.mem_univ j)
    rw [h0, hj]; simp [Ideal.div]
  · rw [div_of_ne h0, Ideal.log_coe]
    split
    · exact bot_lt_top
    · exact EReal.coe_lt_top _

/-! ## The two orders of a score, and the two shifts, agree -/

/-- The two orders of a score are one value: addition of extended reals is commutative and associative. -/
theorem score_eq (x : Fin 512 → EReal) (u : Fin 64 → Fin 512 → EReal) (s l : Fin 64 → EReal) (j : Fin 64) :
    scoreRef x u s l j = score x u s l j := by
  rw [scoreRef, score, sub_eq_add_neg, sub_eq_add_neg, add_assoc, add_comm (- -_) (logWeight l j)]

/-- On the domain a score is below `+∞`. -/
theorem score_lt_top {x : Fin 512 → EReal} {u : Fin 64 → Fin 512 → EReal} {s : Fin 64 → EReal} (l : Fin 64 → EReal)
    (hx : ∀ d, max (x d) (-x d) < ⊤) (hu : ∀ j, ∃ d, u j d ≠ 0) (hs : ∀ j, s j < ⊤) (j : Fin 64) :
    score x u s l j < ⊤ := by
  obtain ⟨a, ha⟩ := dot_real hx (hu j)
  obtain ⟨κ, hκ0, hκ⟩ := exp_real (hs j)
  rw [score, ha, hκ, sub_eq_add_neg, neg_neg, ← EReal.coe_mul]
  exact EReal.add_lt_top (EReal.coe_ne_top _)
    (EReal.add_lt_top (logWeight_lt_top l j).ne (negLogNorm_lt_top hκ0).ne).ne

/-- Shifting by the largest value, or only where it is finite, is one thing for values below `+∞`: where they are all `-∞`
    both give `-∞`. -/
theorem lse_eq {p : Fin 64 → EReal} (h : ∀ j, p j < ⊤) : lseRef p = lse p := by
  have ht := top_lt h
  rw [lseRef, lse]
  by_cases hb : top p = ⊥
  · have hp (j : Fin 64) : p j = ⊥ := le_bot_iff.mp (hb ▸ le_top p j)
    have hsh : shift p = 0 := by rw [shift, hb]; simp
    rw [hsh, hb, EReal.bot_add, add_zero, Finset.sum_congr rfl fun j _ => by rw [hp j]]
    simp
    rw [← EReal.coe_zero, Ideal.log_coe, if_pos le_rfl]
  · have hsh : shift p = top p := by
      rw [shift, if_pos (max_lt ht (by rw [lt_top_iff_ne_top, ne_eq, EReal.neg_eq_top_iff]; exact hb))]
    rw [hsh, add_comm]

/-- THE EQUATION: on the domain the reference's log density is the kernel's. -/
theorem density_eq {x : Fin 512 → EReal} {u : Fin 64 → Fin 512 → EReal} {s : Fin 64 → EReal} (l : Fin 64 → EReal)
    (hx : ∀ d, max (x d) (-x d) < ⊤) (hu : ∀ j, ∃ d, u j d ≠ 0) (hs : ∀ j, s j < ⊤) :
    densityRef x u s l = density x u s l := by
  rw [densityRef, density, funext (score_eq x u s l)]
  exact lse_eq (score_lt_top l hx hu hs)

end Cert.Vmf

end
-- ==== Proof.Layout.lean ====
/- The kernel body's re-layouts, reductions and product, each read at an index of the extended-real arrays. The body keeps
   the modes on the first axis and the points on the last: a per-mode column is repeated along the points, a per-point row
   along the modes, and the sums and maxima over the modes run down the first axis. -/
module

public import proofs.«01_k».proof.Proof.Mixture
public import proofs.«01_k».proof.Proof.Gen.KernelIdeal
public import Idealize.ShloMosaic.Lib.Pipeline.Value
public import Idealize.ShloMosaic.Lib.ValueIdx

@[expose] public section

noncomputable section

namespace Cert.Vmf

open Cert.KernelIdeal Cert.KernelIdeal.Gen Idealize.ShloMosaic Idealize.ShloMosaic.ValueIdx

variable {α : Type}

/-! ## Re-layouts -/

/-- A per-mode column repeated along the points reads the mode's entry. -/
theorem column_apply (x : S64x1.Idx → α) (h : S64x1.Broadcasts S64x8192) (j : Fin 64) (b : Fin 8192) :
    broadcastTo S64x8192 x h (ix2 j b) = x (ix2 j 0) :=
  broadcastTo_apply x h _ _ fun a => match a with | ⟨0, _⟩ => rfl | ⟨1, _⟩ => rfl

/-- A per-mode column repeated along the coordinates reads the mode's entry. -/
theorem column512_apply (x : S64x1.Idx → α) (h : S64x1.Broadcasts S64x512) (j : Fin 64) (d : Fin 512) :
    broadcastTo S64x512 x h (ix2 j d) = x (ix2 j 0) :=
  broadcastTo_apply x h _ _ fun a => match a with | ⟨0, _⟩ => rfl | ⟨1, _⟩ => rfl

/-- A per-point row repeated along the modes reads the point's entry. -/
theorem row_apply (x : S1x8192.Idx → α) (h : S1x8192.Broadcasts S64x8192) (j : Fin 64) (b : Fin 8192) :
    broadcastTo S64x8192 x h (ix2 j b) = x (ix2 0 b) :=
  broadcastTo_apply x h _ _ fun a => match a with | ⟨0, _⟩ => rfl | ⟨1, _⟩ => rfl

/-- One value repeated along the modes reads that value. -/
theorem cell_apply (x : S1x1.Idx → α) (h : S1x1.Broadcasts S64x1) (j : Fin 64) :
    broadcastTo S64x1 x h (ix2 j 0) = x (ix2 0 0) :=
  broadcastTo_apply x h _ _ fun a => match a with | ⟨0, _⟩ => rfl | ⟨1, _⟩ => rfl

/-- The cast of one value to a one by one array reads it. -/
theorem castCell_apply (x : S1.Idx → α) (h : S1.ShapeCasts S1x1) : shapeCast S1x1 x h (ix2 0 0) = x (ix1 0) :=
  shapeCast_apply x h _ _ (by rw [Shape.rowMajor_val_one, Shape.rowMajor_val_two]; rfl)

/-- The cast of a per-point vector to a row reads the point's entry. -/
theorem castRow_apply (x : S8192.Idx → α) (h : S8192.ShapeCasts S1x8192) (b : Fin 8192) :
    shapeCast S1x8192 x h (ix2 0 b) = x (ix1 b) :=
  shapeCast_apply x h _ _ (by
    rw [Shape.rowMajor_val_one, Shape.rowMajor_val_two]; show b.val = 0 * 8192 + b.val; omega)

/-- The cast of a per-mode vector to a column reads the mode's entry. -/
theorem castColumn_apply (x : S64.Idx → α) (h : S64.ShapeCasts S64x1) (j : Fin 64) :
    shapeCast S64x1 x h (ix2 j 0) = x (ix1 j) :=
  shapeCast_apply x h _ _ (by
    rw [Shape.rowMajor_val_one, Shape.rowMajor_val_two]; show j.val = j.val * 1 + 0; omega)

/-- The transpose of a points by modes array reads it with the coordinates exchanged. -/
theorem transpose_points_apply (x : S8192x64.Idx → α) (h : S8192x64.Transposes [1, 0] S64x8192) (j : Fin 64) (b : Fin 8192) :
    transpose S64x8192 [1, 0] x h (ix2 j b) = x (ix2 b j) :=
  transpose_apply [1, 0] x h _ _ fun a => match a with | ⟨0, _⟩ => rfl | ⟨1, _⟩ => rfl

/-! ## Reductions over the modes, and over the coordinates -/

/-- The maximum's starting value is `-∞`. -/
theorem lowest_eq : Ideal.ofBits .f32 0xFF800000#32 = ⊥ := by simp [Ideal.ofBits, Ideal.ieee]

/-- The largest over the modes, point by point. -/
def maxModes (x : FVec Ideal S64x8192 .f32) : FVec Ideal S8192 .f32 :=
  multiReduction .maximumf [0] S8192 x 0xFF800000#32 reduces_S64x8192_S8192 (.inl rfl) rfl

/-- At a point it is the largest entry of the point's column. -/
theorem maxModes_apply (x : FVec Ideal S64x8192 .f32) (b : Fin 8192) :
    maxModes x (ix1 b) = top fun j => x (ix2 j b) :=
  (Ideal.multiReduction_maximumf_single x 0xFF800000#32 reduces_S64x8192_S8192 (.inl rfl) rfl (ix1 b)).trans
    ((congrArg (Finset.fold max · _ _) lowest_eq).trans
      (congrArg (Finset.univ.fold max ⊥) (funext fun j => congrArg x (Shape.idx_ext₂ rfl rfl))))

/-- The sum over the modes, point by point. -/
def sumModes (x : FVec Ideal S64x8192 .f32) : FVec Ideal S8192 .f32 :=
  multiReduction .add [0] S8192 x 0x00000000#32 reduces_S64x8192_S8192 (.inl rfl) rfl

/-- At a point it is the sum of the point's column. -/
theorem sumModes_apply (x : FVec Ideal S64x8192 .f32) (b : Fin 8192) :
    sumModes x (ix1 b) = ∑ j : Fin 64, x (ix2 j b) :=
  (Ideal.multiReduction_add_single x 0x00000000#32 reduces_S64x8192_S8192 (.inl rfl) rfl (ix1 b)).trans
    (Finset.sum_congr rfl fun j _ => congrArg x (Shape.idx_ext₂ rfl rfl))

/-- The largest entry of a per-mode column. -/
def maxColumn (x : FVec Ideal S64x1 .f32) : FVec Ideal S1 .f32 :=
  multiReduction .maximumf [0] S1 x 0xFF800000#32 reduces_S64x1_S1 (.inl rfl) rfl

/-- It is the largest of the 64 entries. -/
theorem maxColumn_apply (x : FVec Ideal S64x1 .f32) :
    maxColumn x (ix1 0) = top fun j => x (ix2 j 0) :=
  (Ideal.multiReduction_maximumf_single x 0xFF800000#32 reduces_S64x1_S1 (.inl rfl) rfl (ix1 0)).trans
    ((congrArg (Finset.fold max · _ _) lowest_eq).trans
      (congrArg (Finset.univ.fold max ⊥) (funext fun j => congrArg x (Shape.idx_ext₂ rfl rfl))))

/-- The sum of a per-mode column. -/
def sumColumn (x : FVec Ideal S64x1 .f32) : FVec Ideal S1 .f32 :=
  multiReduction .add [0] S1 x 0x00000000#32 reduces_S64x1_S1 (.inl rfl) rfl

/-- It is the sum of the 64 entries. -/
theorem sumColumn_apply (x : FVec Ideal S64x1 .f32) :
    sumColumn x (ix1 0) = ∑ j : Fin 64, x (ix2 j 0) :=
  (Ideal.multiReduction_add_single x 0x00000000#32 reduces_S64x1_S1 (.inl rfl) rfl (ix1 0)).trans
    (Finset.sum_congr rfl fun j _ => congrArg x (Shape.idx_ext₂ rfl rfl))

/-- The sum over the coordinates, mode by mode. -/
def sumCoords (x : FVec Ideal S64x512 .f32) : FVec Ideal S64 .f32 :=
  multiReduction .add [1] S64 x 0x00000000#32 reduces_S64x512_S64 (.inl rfl) rfl

/-- At a mode it is the sum of the mode's row. -/
theorem sumCoords_apply (x : FVec Ideal S64x512 .f32) (j : Fin 64) :
    sumCoords x (ix1 j) = ∑ d : Fin 512, x (ix2 j d) :=
  (Ideal.multiReduction_add_single x 0x00000000#32 reduces_S64x512_S64 (.inl rfl) rfl (ix1 j)).trans
    (Finset.sum_congr rfl fun d _ => congrArg x (Shape.idx_ext₂ rfl rfl))

/-! ## The product of the points with the projected locations -/

section Product

/-- The product's left operand is read at the point's row … -/
theorem lhs_row (i : S8192x64.Idx) (q : dot_S8192x512_S64x512_S8192x64_1_1_0_0_n_n.contr.Idx) :
    (dot_S8192x512_S64x512_S8192x64_1_1_0_0_n_n.lhsIdx i q 0).val = (i 0).val := by
  unfold DotDims.lhsIdx
  rw [dif_neg (show ¬(0 : Fin S8192x512.rank) ∈ dot_S8192x512_S64x512_S8192x64_1_1_0_0_n_n.lhsBatch by decide),
    dif_pos (show (0 : Fin S8192x512.rank) ∈ dot_S8192x512_S64x512_S8192x64_1_1_0_0_n_n.lhsNonContracting by decide)]
  rfl

/-- … and its right operand at the mode's row. -/
theorem rhs_row (i : S8192x64.Idx) (q : dot_S8192x512_S64x512_S8192x64_1_1_0_0_n_n.contr.Idx) :
    (dot_S8192x512_S64x512_S8192x64_1_1_0_0_n_n.rhsIdx i q 0).val = (i 1).val := by
  unfold DotDims.rhsIdx
  rw [dif_neg (show ¬(0 : Fin S64x512.rank) ∈ dot_S8192x512_S64x512_S8192x64_1_1_0_0_n_n.rhsBatch by decide),
    dif_pos (show (0 : Fin S64x512.rank) ∈ dot_S8192x512_S64x512_S8192x64_1_1_0_0_n_n.rhsNonContracting by decide)]
  rfl

/-- The product at a point and a mode: the sum over the coordinates of the two rows' products. -/
theorem product_apply (x : FVec Ideal S8192x512 .f32) (u : FVec Ideal S64x512 .f32) (b : Fin 8192) (j : Fin 64) :
    matmul dot_S8192x512_S64x512_S8192x64_1_1_0_0_n_n none x u (constant S8192x64 .f32 0x00000000#32) (ix2 b j)
      = ∑ d : Fin 512, x (ix2 b d) * u (ix2 j d) := by
  simp only [matmul]
  rw [Ideal.matmul_constant_zero_apply,
    ← Equiv.sum_comp (contrEquiv1 dot_S8192x512_S64x512_S8192x64_1_1_0_0_n_n 512 rfl rfl).symm]
  refine Finset.sum_congr rfl fun d _ => ?_
  have hd := contrEquiv1_symm_val dot_S8192x512_S64x512_S8192x64_1_1_0_0_n_n 512 rfl rfl d
  exact congrArg₂ (· * ·)
    (congrArg x (Shape.idx_ext₂ (lhs_row _ _)
      ((dot_S8192x512_S64x512_S8192x64_1_1_0_0_n_n.lhsIdx_val_of_single rfl _ _).trans hd)))
    (congrArg u (Shape.idx_ext₂ (rhs_row _ _)
      ((dot_S8192x512_S64x512_S8192x64_1_1_0_0_n_n.rhsIdx_val_of_single rfl _ _).trans hd)))

end Product

end Cert.Vmf

end
-- ==== Proof.Block.lean ====
/- What one block computes: the block of 8192 points that the kernel body writes is, entry by entry, the log density of
   the point in the block's row. -/
module

public import proofs.«01_k».proof.Proof.Layout
public import proofs.«01_k».proof.Proof.Gen.KernelIdeal.Value

@[expose] public section

noncomputable section

namespace Cert.Vmf

open Cert.KernelIdeal Cert.KernelIdeal.Gen Idealize.ShloMosaic Idealize.ShloMosaic.ValueIdx

/-! ## The body's values, mode by mode -/

/-- The body projects each location onto the sphere. -/
theorem projected_apply (u : FVec Ideal S64x512 .f32) (j : Fin 64) (d : Fin 512) :
    k0_pay2 (F := Ideal) u (ix2 j d) = unit (fun d => u (ix2 j d)) d := by
  show divf u (broadcastTo S64x512 (sqrt (shapeCast S64x1 (sumCoords (mulf u u)) shapeCasts_S64_S64x1))
    broadcasts_S64x1_S64x512) (ix2 j d) = _
  rw [divf_apply, column512_apply]
  show Ideal.div _ (Ideal.sqrt (shapeCast S64x1 _ _ (ix2 j 0))) = _
  rw [castColumn_apply, sumCoords_apply]
  rfl

/-- The body's log norm is the reference's: subtracting from zero changes the sign. -/
theorem logNorm_apply (s : FVec Ideal S64x1 .f32) (i : S64x1.Idx) :
    k0_pay4 (F := Ideal) s i = -negLogNorm (Ideal.exp (s i)) := by
  show Ideal.ofBits .f32 0x00000000#32 - negLogNorm (Ideal.exp (s i)) = _
  rw [Ideal.ofBits_zero_f32, zero_sub]

/-! ## The weights -/

/-- The largest logit, as the body spreads it over the modes: the larger of `-∞` and the column's maximum. -/
def spreadTop (l : FVec Ideal S64x1 .f32) : FVec Ideal S64x1 .f32 :=
  broadcastTo S64x1 (shapeCast S1x1 (maximumf (broadcast S1 (Scalar.ofBits .f32 0xFF800000#32)) (maxColumn l)) shapeCasts_S1_S1x1)
    broadcasts_S1x1_S64x1

/-- It is the largest logit at every mode. -/
theorem spreadTop_apply (l : FVec Ideal S64x1 .f32) (j : Fin 64) : spreadTop l (ix2 j 0) = top fun k => l (ix2 k 0) := by
  unfold spreadTop
  rw [cell_apply, castCell_apply, maximumf_apply, maxColumn_apply]
  show max (Ideal.ofBits .f32 0xFF800000#32) _ = _
  rw [lowest_eq, max_eq_right bot_le]

/-- The exponentials of the shifted logits. -/
def raised (l : FVec Ideal S64x1 .f32) : FVec Ideal S64x1 .f32 := exp (subf l (spreadTop l))

theorem raised_apply (l : FVec Ideal S64x1 .f32) (j : Fin 64) :
    raised l (ix2 j 0) = Ideal.exp (l (ix2 j 0) - top fun k => l (ix2 k 0)) := by
  show Ideal.exp (l (ix2 j 0) - spreadTop l (ix2 j 0)) = _
  rw [spreadTop_apply]

/-- The logs of the weights, as the body computes them. -/
def weights (l : FVec Ideal S64x1 .f32) : FVec Ideal S64x1 .f32 :=
  log (divf (raised l) (broadcastTo S64x1 (shapeCast S1x1 (sumColumn (raised l)) shapeCasts_S1_S1x1)
    broadcasts_S1x1_S64x1))

/-- They are the logs of the logits' softmax. -/
theorem weights_apply (l : FVec Ideal S64x1 .f32) (j : Fin 64) :
    weights l (ix2 j 0) = logWeight (fun k => l (ix2 k 0)) j := by
  show Ideal.log (Ideal.div (raised l (ix2 j 0)) (broadcastTo S64x1 _ _ (ix2 j 0))) = _
  rw [cell_apply, castCell_apply, sumColumn_apply, raised_apply]
  simp only [raised_apply]
  rfl

/-! ## The scores and their log sum -/

/-- The log of an array, at an index. -/
theorem log_apply {s : Shape} (x : FVec Ideal s .f32) (i : s.Idx) : log x i = Ideal.log (x i) := rfl

/-- The exponential of an array, at an index. -/
theorem exp_apply {s : Shape} (x : FVec Ideal s .f32) (i : s.Idx) : exp x i = Ideal.exp (x i) := rfl

/-- The scores of a block's points, modes first: the concentration times the product, plus the mode's own term. -/
def scores (x : FVec Ideal S8192x512 .f32) (u : FVec Ideal S64x512 .f32) (κ w : FVec Ideal S64x1 .f32) :
    FVec Ideal S64x8192 .f32 :=
  addf (mulf (broadcastTo S64x8192 κ broadcasts_S64x1_S64x8192)
      (transpose S64x8192 [1, 0] (matmul dot_S8192x512_S64x512_S8192x64_1_1_0_0_n_n none x u
        (constant S8192x64 .f32 0x00000000#32)) transposes_S8192x64_p1_0_S64x8192))
    (broadcastTo S64x8192 w broadcasts_S64x1_S64x8192)

theorem scores_apply (x : FVec Ideal S8192x512 .f32) (u : FVec Ideal S64x512 .f32) (κ w : FVec Ideal S64x1 .f32)
    (j : Fin 64) (b : Fin 8192) :
    scores x u κ w (ix2 j b) = κ (ix2 j 0) * (∑ d : Fin 512, x (ix2 b d) * u (ix2 j d)) + w (ix2 j 0) := by
  unfold scores
  rw [addf_apply, mulf_apply, column_apply, column_apply, transpose_points_apply, product_apply]

/-- The log of the sum of exponentials down the modes, as the body computes it. -/
def logSum (p : FVec Ideal S64x8192 .f32) : FVec Ideal S8192 .f32 :=
  have row : FVec Ideal S1x8192 .f32 := shapeCast S1x8192 (maxModes p) shapeCasts_S8192_S1x8192
  addf (shapeCast S8192 row shapeCasts_S1x8192_S8192)
    (log (sumModes (exp (subf p (broadcastTo S64x8192 row broadcasts_S1x8192_S64x8192)))))

/-- At a point it is `lse` of the point's column. -/
theorem logSum_apply (p : FVec Ideal S64x8192 .f32) (b : Fin 8192) :
    logSum p (ix1 b) = lse fun j => p (ix2 j b) := by
  unfold logSum
  rw [addf_apply, shapeCast_shapeCast, maxModes_apply, log_apply, sumModes_apply]
  refine congrArg (fun e => (top fun j => p (ix2 j b)) + Ideal.log e) (Finset.sum_congr rfl fun j _ => ?_)
  rw [exp_apply, subf_apply, row_apply, castRow_apply, maxModes_apply]

/-- The body's last payload is `logSum` of the `scores`, the mode's own term being its log weight less its log norm. -/
theorem payload_eq (u : FVec Ideal S64x512 .f32) (κ n l : FVec Ideal S64x1 .f32) (x : FVec Ideal S8192x512 .f32) :
    k0_pay1 u κ n l x = logSum (scores x u κ (subf (weights l) n)) := by
  unfold k0_pay1
  dsimp only
  rw [shapeCast_self]
  rfl

/-! ## The block -/

/-- What the body writes at row `b` of its block: the log density of the point in row `b`. -/
theorem block_apply (x : FVec Ideal S8192x512 .f32) (u : FVec Ideal S64x512 .f32) (s l : FVec Ideal S64x1 .f32) (b : Fin 8192) :
    out0_4 (F := Ideal) x u s l (ix1 b)
      = density (fun d => x (ix2 b d)) (fun j d => u (ix2 j d)) (fun j => s (ix2 j 0)) (fun j => l (ix2 j 0)) := by
  have h1 : (![0] : Fin 1 → Nat) = fun _ => 0 := funext fun a => match a with | ⟨0, _⟩ => rfl
  have h2 : (![0, 0] : Fin 2 → Nat) = fun _ => 0 := funext fun a => match a with | ⟨0, _⟩ => rfl | ⟨1, _⟩ => rfl
  unfold out0_4
  rw [View.canon_unit_zero h1, View.ld_unit_zero h2, View.ld_unit_zero h2, View.ld_unit_zero h2, View.ld_unit_zero h2,
    payload_eq, logSum_apply]
  refine congrArg lse (funext fun j => ?_)
  rw [scores_apply, subf_apply, weights_apply, logNorm_apply]
  simp only [projected_apply]
  rfl

end Cert.Vmf

end
-- ==== Proof.Array.lean ====
/- What the result array holds after the run: at every index, the log density of the point in that row of the first
   argument. Grid point `t` reads rows `8192 t, …, 8192 t + 8191` of the points and the other three arrays whole, and
   writes the same 8192 entries of the result; the 16 blocks tile the result. -/
module

public import proofs.«01_k».proof.Proof.Block

@[expose] public section

noncomputable section

namespace Cert.Vmf

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## The arguments as the mathematics reads them -/

/-- Point `i` of device `c`'s first argument. -/
abbrev points (c : Dev nD) (i : Fin 131072) (d : Fin 512) : EReal := m ((c : Thread nD τ).loc main_arg0) (ix2 i d)

/-- The modes' locations. -/
abbrev locations (c : Dev nD) (j : Fin 64) (d : Fin 512) : EReal := m ((c : Thread nD τ).loc main_arg1) (ix2 j d)

/-- The modes' log concentrations. -/
abbrev logScales (c : Dev nD) (j : Fin 64) : EReal := m ((c : Thread nD τ).loc main_arg2) (ix2 j 0)

/-- The modes' logits. -/
abbrev logits (c : Dev nD) (j : Fin 64) : EReal := m ((c : Thread nD τ).loc main_arg3) (ix1 j)

/-- The result array: every point's log density. -/
def result (c : Dev nD) : Buf (Elt Ideal) ((c : Thread nD τ).loc main_v1) :=
  fun i => density (points m c (i 0)) (locations m c) (logScales m c) (logits m c)

/-! ## The blocks the body reads -/

/-- The one host operation before the kernel lays the logits out as a column. -/
theorem column_eq (c : Dev nD) :
    (V m c main_v0 : FVec Ideal S64x1 .f32)
      = shapeCast S64x1 (m ((c : Thread nD τ).loc main_arg3) : FVec Ideal S64 .f32) shapeCasts_S64_S64x1 := by
  show StableHlo.after hostOps0 _ (Proc.devRef .tc main_v0) = _
  after_results
  rfl

/-- Window 0 moves with the grid along the rows and takes all the columns; -/
theorem index0 : ∀ t : Fin grid0.N, win0_0.index t 0 = t.val ∧ win0_0.index t 1 = 0 := by decide +kernel
/-- windows 1, 2 and 3 stay at the origin; -/
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
/-- window 4, the result's, moves with the grid. -/
theorem index4 : ∀ t : Fin grid0.N, win0_4.index t 0 = t.val := by decide +kernel

/-- Row `b` of grid point `t`'s block is row `8192 t + b` of the array. -/
def place (t : Fin cfg0.N) (b : Fin 8192) : Fin 131072 :=
  ⟨t.val * 8192 + b.val, by have h : t.val < 16 := N_0 ▸ t.isLt; have := b.isLt; omega⟩

/-- The block of points at `t`. -/
theorem read_points (c : Dev nD) (t : Fin cfg0.N) (b : Fin 8192) (d : Fin 512) :
    (iblk m c 0 t : FVec Ideal S8192x512 .f32) (ix2 b d) = points m c (place t b) d := by
  unfold iblk
  rw [View.read_apply]
  show V m c main_arg0 _ = _
  rw [V_main_arg0]
  refine congrArg (m ((c : Thread nD τ).loc main_arg0)) (Shape.idx_ext₂ ?_ ?_)
  · exact (win0_0.rect_emb_val t (ix2 b d) 0).trans (by rw [(index0 t).1]; rfl)
  · exact win0_0.rect_emb_val_of_index_zero t 1 (index0 t).2 (ix2 b d)

/-- The block of locations is the whole array. -/
theorem read_locations (c : Dev nD) (t : Fin cfg0.N) (j : Fin 64) (d : Fin 512) :
    (iblk m c 1 t : FVec Ideal S64x512 .f32) (ix2 j d) = locations m c j d := by
  unfold iblk
  rw [View.read_apply]
  show V m c main_arg1 _ = _
  rw [V_main_arg1]
  exact congrArg (m ((c : Thread nD τ).loc main_arg1)) (Shape.idx_ext₂
    (win0_1.rect_emb_val_of_index_zero t 0 (index1 t).1 (ix2 j d))
    (win0_1.rect_emb_val_of_index_zero t 1 (index1 t).2 (ix2 j d)))

/-- The block of log concentrations is the whole array. -/
theorem read_logScales (c : Dev nD) (t : Fin cfg0.N) (j : Fin 64) :
    (iblk m c 2 t : FVec Ideal S64x1 .f32) (ix2 j 0) = logScales m c j := by
  unfold iblk
  rw [View.read_apply]
  show V m c main_arg2 _ = _
  rw [V_main_arg2]
  exact congrArg (m ((c : Thread nD τ).loc main_arg2)) (Shape.idx_ext₂
    (win0_2.rect_emb_val_of_index_zero t 0 (index2 t).1 (ix2 j 0))
    (win0_2.rect_emb_val_of_index_zero t 1 (index2 t).2 (ix2 j 0)))

/-- The block of logits is the whole column. -/
theorem read_logits (c : Dev nD) (t : Fin cfg0.N) (j : Fin 64) :
    (iblk m c 3 t : FVec Ideal S64x1 .f32) (ix2 j 0) = logits m c j := by
  unfold iblk
  rw [View.read_apply]
  show (V m c main_v0 : FVec Ideal S64x1 .f32) _ = _
  rw [column_eq]
  refine (congrArg (shapeCast S64x1 (m ((c : Thread nD τ).loc main_arg3) : FVec Ideal S64 .f32) shapeCasts_S64_S64x1)
    (Shape.idx_ext₂ (y := ix2 j 0) (win0_3.rect_emb_val_of_index_zero t 0 (index3 t).1 (ix2 j 0))
      (win0_3.rect_emb_val_of_index_zero t 1 (index3 t).2 (ix2 j 0)))).trans ?_
  exact castColumn_apply _ _ j

/-! ## The result array -/

/-- What grid point `t` writes back is its block of `result`. -/
theorem flushed_eq (c : Dev nD) (t : Fin cfg0.N) :
    (dats m 0 c).flushed 4 t = ((cfg0.win 4).blk t).view.read (Elt Ideal) (result m c) := by
  rw [Cert.KernelIdeal.Value.flushed4]
  refine funext fun (y : S8192.Idx) => ?_
  rw [View.read_apply]
  obtain ⟨b, rfl⟩ : ∃ b : Fin 8192, y = ix1 b := ⟨y 0, eq_ix1 y⟩
  have hp : ((win0_4.rect t).emb (ix1 b) 0 : Fin 131072) = place t b :=
    Fin.ext ((win0_4.rect_emb_val t (ix1 b) 0).trans (by rw [index4 t]; rfl))
  refine (block_apply (iblk m c 0 t) (iblk m c 1 t) (iblk m c 2 t) (iblk m c 3 t) b).trans ?_
  show _ = density (points m c ((win0_4.rect t).emb (ix1 b) 0)) _ _ _
  rw [hp]
  simp only [read_points, read_locations, read_logScales, read_logits]

/-- An index is in grid point `t`'s block of the result when it is one of its 8192 entries. -/
theorem mem_blk (t : Fin cfg0.N) (i : S131072.Idx) :
    i ∈ ((cfg0.win 4).blk t).view.set ↔ t.val * 8192 ≤ (i 0 : Nat) ∧ (i 0 : Nat) < t.val * 8192 + 8192 := by
  show i ∈ ((View.whole main_v1).slice (win0_4.rect t)).set ↔ _
  rw [View.set_slice_whole, Rect.mem_set_unit]
  have e : win0_4.index t 0 * win0_4.size 0 = t.val * 8192 := by rw [index4 t]; rfl
  have reach (a) : (win0_4.index t 0 * win0_4.size 0 ≤ a ∧ a < win0_4.index t 0 * win0_4.size 0 + 8192)
      ↔ t.val * 8192 ≤ a ∧ a < t.val * 8192 + 8192 := by rw [e]
  exact ⟨fun h => (reach _).mp (h 0), fun h a => match a with | ⟨0, _⟩ => (reach _).mpr h⟩

/-- The 16 blocks tile the result. -/
theorem cover (i : S131072.Idx) :
    ∃ t : Fin cfg0.N, (cfg0.win 4).flush t = true ∧ i ∈ ((cfg0.win 4).blk t).view.set := by
  have h0 : (i 0 : Nat) < 131072 := (i 0).isLt
  have hN : cfg0.N = 16 := N_0
  refine ⟨⟨(i 0 : Nat) / 8192, by omega⟩, flush0_4 _, ?_⟩
  rw [mem_blk]
  dsimp only
  omega

/-- So the result array ends holding every point's log density. -/
theorem final_eq (c : Dev nD) : (dats m 0 c).arrAt 4 cfg0.N = result m c :=
  (dats m 0 c).arrAt_eq_of_cover 4 (result m c) (fun t _ => flushed_eq m c t) cover

/-- The kernel's run: the result array holds every point's log density, the arguments are as launched. -/
theorem kernel_run (ρ : Dev nD → PrngReg) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Cert.KernelIdeal.Value.run_blocks m ρ)

end Cert.Vmf

end
-- ==== Proof.Reference.lean ====
/- What the reference computes: its result array holds, at every index, `densityRef` of the point in that row. The
   reference keeps the points on the first axis and the modes on the last. -/
module

public import proofs.«01_k».proof.Proof.Mixture
public import proofs.«01_k».proof.Proof.Gen.ReferenceIdeal.Read
public import Idealize.ShloMosaic.Lib.ValueIdxRank1

@[expose] public section

noncomputable section

namespace Cert.Vmf.Reference

open Cert.ReferenceIdeal Cert.ReferenceIdeal.Gen Cert.ReferenceIdeal.Read Idealize.ShloMosaic
open Idealize.ShloMosaic.ValueIdx

variable (x : FVec Ideal S131072x512 .f32) (u : FVec Ideal S64x512 .f32) (s : FVec Ideal S64x1 .f32) (l : FVec Ideal S64 .f32)

/-! ## Literals -/

/-- The starting value of the maxima. -/
theorem lowest_eq : Ideal.ofBits .f32 0xFF800000#32 = ⊥ := by simp [Ideal.ofBits, Ideal.ieee]

/-- The bound of the finiteness test. -/
theorem highest_eq : Ideal.ofBits .f32 0x7F800000#32 = ⊤ := by simp [Ideal.ofBits, Ideal.ieee]

/-! ## Each mode: the projected location, the concentration, the log norm, the log weight -/

/-- The reference projects each location onto the sphere. -/
theorem projected_apply (j : Fin 64) (d : Fin 512) :
    val_main_v2 (F := Ideal) u (ix2 j d) = unit (fun d => u (ix2 j d)) d := by
  rw [val_main_v2_apply, val_main_v1_apply, val_main_v0_apply, val_main_call0_v2_apply, val_main_call0_v1_apply]
  simp only [val_main_call0_cst_apply, val_main_call0_v0_apply, Ideal.hostDivf_def, Ideal.hostUnary_sqrt_def,
    Ideal.ofBits_def, Ideal.ofBits_zero_f32, zero_add, Ideal.mulf_def]
  refine congrArg (fun e => Ideal.div (u (ix2 j d)) (Ideal.sqrt e)) (Finset.sum_congr rfl fun k _ => ?_)
  rw [show idx_main_call0_v1 (idx_main_call0_v2 (idx_main_v1 (ix2 j d))) k = ix2 j k from Shape.idx_ext₂ rfl rfl]

/-- The concentration of a mode. -/
theorem concentration_apply (j : Fin 64) : val_main_v4 (F := Ideal) s (ix1 j) = Ideal.exp (s (ix2 j 0)) := by
  rw [val_main_v4_apply, val_main_v3_apply, Ideal.hostUnary_exp_def,
    show idx_main_v4 (ix1 j) = ix2 j 0 from Shape.idx_ext₂ (Nat.div_one _) rfl]

/-- The log norm of a mode. -/
theorem logNorm_apply (j : Fin 64) :
    val_main_v39 (F := Ideal) s (ix1 j) = -negLogNorm (Ideal.exp (s (ix2 j 0))) := by
  simp only [val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v8_apply, val_main_v7_apply, val_main_cst_apply, val_main_cst_0_apply,
    val_main_cst_1_apply, val_main_cst_2_apply, val_main_cst_3_apply, val_main_cst_4_apply, val_main_cst_5_apply,
    val_main_cst_6_apply, val_main_cst_7_apply, concentration_apply]
  rfl

/-- The largest logit. -/
theorem topLogit_apply : val_main_v47 (F := Ideal) l ix0 = top fun k => l (ix1 k) := by
  rw [val_main_v47_apply, val_main_cst_9_apply, val_main_v46, Ideal.maximumf_def, Ideal.ofBits_def, lowest_eq,
    max_eq_right bot_le, Host.reduce_eq_fold, Finset.filter_true_of_mem fun i _ => Subsingleton.elim _ _]
  show Finset.fold max (Ideal.ofBits .f32 0xFF800000#32) l Finset.univ = Finset.fold max ⊥ _ Finset.univ
  rw [lowest_eq, ← Finset.map_univ_equiv (idxEquiv1 (n := 64)).symm, Finset.fold_map]
  rfl

/-- The exponential of a shifted logit. -/
theorem raised_apply (j : Fin 64) :
    val_main_v51 (F := Ideal) l (ix1 j) = Ideal.exp (l (ix1 j) - top fun k => l (ix1 k)) := by
  rw [val_main_v51_apply, val_main_v50_apply, val_main_v49_apply, val_main_v48_apply, Ideal.hostUnary_exp_def,
    Ideal.subf_def, ← topLogit_apply]

/-- The log weight of a mode. -/
theorem logWeight_apply (j : Fin 64) : val_main_v56 (F := Ideal) l (ix1 j) = logWeight (fun k => l (ix1 k)) j := by
  rw [val_main_v56_apply, val_main_v55_apply, val_main_v54_apply, val_main_v53_apply, val_main_v52_apply, raised_apply,
    Ideal.hostUnary_log_def, Ideal.hostDivf_def, val_main_cst_10_apply, Ideal.ofBits_def, Ideal.ofBits_zero_f32, zero_add,
    ← Equiv.sum_comp (idxEquiv1 (n := 64)).symm]
  exact congrArg (fun e => Ideal.log (Ideal.div _ e)) (Finset.sum_congr rfl fun k _ => raised_apply l k)

/-! ## The scores, and the log of their sum -/

/-- The inner product of a point with a projected location. -/
theorem dot_apply (i : Fin 131072) (j : Fin 64) :
    val_main_v6 (F := Ideal) x u (ix2 i j) = dot (fun d => x (ix2 i d)) (fun d => u (ix2 j d)) := by
  rw [val_main_v6_apply]
  refine Finset.sum_congr rfl fun d _ => ?_
  rw [val_main_v5_apply, show lidx_main_v6 (ix2 i j) d = ix2 i d from Shape.idx_ext₂ rfl rfl,
    show idx_main_v5 (ridx_main_v6 (ix2 i j) d) = ix2 j d from Shape.idx_ext₂ rfl rfl, projected_apply]

/-- A point's score under a mode. -/
theorem score_apply (i : Fin 131072) (j : Fin 64) :
    val_main_v59 (F := Ideal) x u s l (ix2 i j)
      = scoreRef (fun d => x (ix2 i d)) (fun j d => u (ix2 j d)) (fun j => s (ix2 j 0)) (fun j => l (ix1 j)) j := by
  rw [val_main_v59_apply, val_main_v45_apply, val_main_v42_apply, val_main_v41_apply, val_main_v40_apply,
    val_main_v44_apply, val_main_v43_apply, val_main_v58_apply, val_main_v57_apply, dot_apply,
    show idx_main_v40 (idx_main_v41 (ix2 i j)) = ix1 j from eq_ix1 _,
    show idx_main_v43 (idx_main_v44 (ix2 i j)) = ix1 j from eq_ix1 _,
    show idx_main_v57 (idx_main_v58 (ix2 i j)) = ix1 j from eq_ix1 _,
    concentration_apply, logNorm_apply, logWeight_apply]
  rfl

/-- The scores of one point. -/
abbrev scores (i : Fin 131072) : Fin 64 → EReal :=
  scoreRef (fun d => x (ix2 i d)) (fun j d => u (ix2 j d)) (fun j => s (ix2 j 0)) (fun j => l (ix1 j))

/-- The maximum runs over the second axis. -/
theorem reduces_modes : S131072x64.Reduces [1] S131072 := by decide

/-- The largest score of a point. -/
theorem topScore_apply (i : Fin 131072) : val_main_v60 (F := Ideal) x u s l (ix1 i) = top (scores x u s l i) := by
  rw [val_main_v60, Host.reduce_eq_fold_single _ _ _ _ reduces_modes]
  show Finset.fold max (Ideal.ofBits .f32 0xFF800000#32) _ Finset.univ = _
  rw [lowest_eq]
  refine congrArg (Finset.univ.fold max ⊥) (funext fun (j : Fin 64) => ?_)
  have e : reduces_modes.lift (ix1 i) j = ix2 i j := Shape.idx_ext₂ rfl rfl
  exact (congrArg (val_main_v59 (F := Ideal) x u s l) e).trans (score_apply x u s l i j)

/-- The shift the reference takes. -/
theorem shift_apply (i : Fin 131072) : val_main_v64 (F := Ideal) x u s l (ix1 i) = shift (scores x u s l i) := by
  rw [val_main_v64_apply, val_main_v63_apply, val_main_v61_apply, val_main_v62_apply, val_main_call1_v1_apply,
    val_main_call1_v0_apply, val_main_cst_12_apply, val_main_cst_13_apply, topScore_apply, Ideal.hostAbsf_def, Ideal.absf_def,
    Ideal.ofBits_def, Ideal.ofBits_def, Ideal.ofBits_zero_f32, highest_eq, Ideal.cmpf_def, shift]
  by_cases h : max (top (scores x u s l i)) (-top (scores x u s l i)) < ⊤
  · simp [Ideal.cmp, Scalar.select, h]
  · simp [Ideal.cmp, Scalar.select, h]

/-- The reference's result, at a point: its log density. -/
theorem density_apply (i : Fin 131072) :
    val_main_v71 (F := Ideal) x u s l (ix1 i)
      = densityRef (fun d => x (ix2 i d)) (fun j d => u (ix2 j d)) (fun j => s (ix2 j 0)) (fun j => l (ix1 j)) := by
  rw [val_main_v71_apply, val_main_v70_apply, val_main_v69_apply, shift_apply, val_main_cst_14_apply, Ideal.ofBits_def,
    Ideal.ofBits_zero_f32, zero_add, Ideal.hostUnary_log_def, Ideal.addf_def]
  refine congrArg (fun e => Ideal.log e + shift (scores x u s l i)) (Finset.sum_congr rfl fun j _ => ?_)
  rw [val_main_v68_apply, val_main_v67_apply, val_main_v66_apply, val_main_v65_apply, Ideal.hostUnary_exp_def,
    Ideal.subf_def, show idx_main_v69 (ix1 i) j = ix2 i j from Shape.idx_ext₂ rfl rfl,
    show idx_main_v65 (idx_main_v66 (ix2 i j)) = ix1 i from eq_ix1 _, score_apply, shift_apply]

end Cert.Vmf.Reference

end
-- ==== Proof.Domain.lean ====
/- What the domain says: every coordinate of every point is finite, every log concentration is below `+∞`, and every
   location has a coordinate that isn't zero. -/
module

public import proofs.«01_k».proof.Proof.Gen.Pre_in_domain
public import Idealize.ShloMosaic.PureOps.Ideal.Laws
public import Idealize.ShloMosaic.Lib.ValueIdx
public import Idealize.ShloMosaic.Lib.Pipeline.Value

@[expose] public section

noncomputable section

namespace Cert.Vmf.Domain

open Cert.Pre_in_domain Cert.Pre_in_domain.Gen Idealize.ShloMosaic Idealize.ShloMosaic.ValueIdx

variable [Facts] {x : FVec Ideal S131072x512 .f32} {u : FVec Ideal S64x512 .f32} {s : FVec Ideal S64x1 .f32}
  {l : FVec Ideal S64 .f32}

/-- The bound of the comparisons. -/
theorem highest_eq : Ideal.ofBits .f32 0x7F800000#32 = ⊤ := by simp [Ideal.ofBits, Ideal.ieee]

/-- A decided bit is one only where its proposition holds. -/
theorem of_bit {p : Prop} [Decidable p] (h : BitVec.ofBool (decide p) = 1#1) : p := by
  by_contra hp
  rw [decide_eq_false hp] at h
  exact absurd h (by decide)

/-- The points are finite. -/
theorem finite_points (h : (fn x u s l).1 = fun _ => 1#1) (i : Fin 131072) (d : Fin 512) :
    max (x (ix2 i d)) (-x (ix2 i d)) < ⊤ := by
  have h' := congrFun h (ix2 i d)
  have : BitVec.ofBool (decide (max (x (ix2 i d)) (-x (ix2 i d)) < Ideal.ofBits .f32 0x7F800000#32)) = 1#1 := h'
  rw [highest_eq] at this
  exact of_bit this

/-- The log concentrations are below `+∞`. -/
theorem bounded_logScales (h : (fn x u s l).2.1 = fun _ => 1#1) (j : Fin 64) : s (ix2 j 0) < ⊤ := by
  have h' := congrFun h (ix2 j 0)
  have : BitVec.ofBool (decide (s (ix2 j 0) < Ideal.ofBits .f32 0x7F800000#32)) = 1#1 := h'
  rw [highest_eq] at this
  exact of_bit this

/-- The disjunction over the coordinates runs over the second axis. -/
theorem reduces_coords : S64x512.Reduces [1] S64 := by decide

/-- A disjunction of bits, started at zero, is one only where one of the bits is. -/
theorem exists_of_or {ι : Type} [DecidableEq ι] (S : Finset ι) (f : ι → BitVec 1)
    (h : S.fold IntOp.ori 0#1 f = 1#1) : ∃ i ∈ S, f i = 1#1 := by
  induction S using Finset.induction_on with
  | empty => rw [Finset.fold_empty] at h; exact absurd h (by decide)
  | insert a S ha ih =>
    rw [Finset.fold_insert ha] at h
    have split : ∀ p q : BitVec 1, IntOp.ori p q = 1#1 → p = 1#1 ∨ q = 1#1 := by decide
    rcases split _ _ h with h | h
    · exact ⟨a, Finset.mem_insert_self a S, h⟩
    · obtain ⟨i, hi, e⟩ := ih h
      exact ⟨i, Finset.mem_insert_of_mem hi, e⟩

/-- Every location has a coordinate that isn't zero. -/
theorem nonzero_locations (h : (fn x u s l).2.2 = fun _ => 1#1) (j : Fin 64) : ∃ d : Fin 512, u (ix2 j d) ≠ 0 := by
  have h' := congrFun h (ix1 j)
  unfold fn at h'
  dsimp only at h'
  rw [Host.reduce_eq_fold_single _ _ _ _ reduces_coords] at h'
  obtain ⟨(d : Fin 512), -, e⟩ := exists_of_or _ _ h'
  refine ⟨d, ?_⟩
  have e' : BitVec.ofBool (decide (u (reduces_coords.lift (ix1 j) d) ≠ Ideal.ofBits .f32 0x00000000#32)) = 1#1 := e
  rw [Ideal.ofBits_zero_f32] at e'
  have place : reduces_coords.lift (ix1 j) d = ix2 j d := Shape.idx_ext₂ rfl rfl
  exact fun zero => of_bit e' ((congrArg u place).trans zero)

end Cert.Vmf.Domain

end
-- ==== Proof.lean ====
/- The proof of the certificate's claims: the kernel and its idealization run, leave their arguments unchanged and end with
   every semaphore at zero; so does the reference; the idealization rewrote nothing; and on the domain the kernel's result
   array is the reference's. The last joins four modules: `Proof/Array.lean` (what the kernel's result array holds),
   `Proof/Reference.lean` (what the reference computes), `Proof/Domain.lean` (what the domain says) and
   `Proof/Equation.lean` (the two log densities are equal there). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Array
public import proofs.«01_k».proof.Proof.Reference
public import proofs.«01_k».proof.Proof.Domain
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem

/-- The kernel runs, leaves its arguments unchanged and ends with every semaphore at zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- on the domain too, -/
theorem frame_ideal_domain : Cert.quiescent_KernelIdeal_pre_in_domain := fun m ρ _ => Cert.KernelIdeal.Gen.frame m ρ

/-- The reference runs, leaves its arguments unchanged and ends with every semaphore at zero, since it declares none. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      (fun r => (∀ c : Dev Cert.ReferenceIdeal.nD,
        r.2.mem ((c : Thread Cert.ReferenceIdeal.nD Cert.ReferenceIdeal.τ).loc Cert.ReferenceIdeal.main_arg0) = m ((c : Thread Cert.ReferenceIdeal.nD Cert.ReferenceIdeal.τ).loc Cert.ReferenceIdeal.main_arg0)
        ∧ r.2.mem ((c : Thread Cert.ReferenceIdeal.nD Cert.ReferenceIdeal.τ).loc Cert.ReferenceIdeal.main_arg1) = m ((c : Thread Cert.ReferenceIdeal.nD Cert.ReferenceIdeal.τ).loc Cert.ReferenceIdeal.main_arg1)
        ∧ r.2.mem ((c : Thread Cert.ReferenceIdeal.nD Cert.ReferenceIdeal.τ).loc Cert.ReferenceIdeal.main_arg2) = m ((c : Thread Cert.ReferenceIdeal.nD Cert.ReferenceIdeal.τ).loc Cert.ReferenceIdeal.main_arg2)
        ∧ r.2.mem ((c : Thread Cert.ReferenceIdeal.nD Cert.ReferenceIdeal.τ).loc Cert.ReferenceIdeal.main_arg3) = m ((c : Thread Cert.ReferenceIdeal.nD Cert.ReferenceIdeal.τ).loc Cert.ReferenceIdeal.main_arg3))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's frame claim, -/
theorem frame_reference : Cert.quiescent_ReferenceIdeal := fun m ρ _ => reference_run m ρ

/-- on the domain too. -/
theorem frame_reference_domain : Cert.quiescent_ReferenceIdeal_pre_in_domain := fun m ρ _ => reference_run m ρ

/-- The idealization rewrote nothing. -/
theorem preserves : Cert.preserves_Kernel_KernelIdeal := trivial

/-- On the domain the reference's result, from arguments that agree, is the kernel's. -/
theorem result_eq (m : (ℓ : Loc Cert.KernelIdeal.nD Cert.KernelIdeal.τ Cert.KernelIdeal.sig) → Buf (Elt Ideal) ℓ)
    (h : Cert.Pre_KernelIdeal_in_domain m) (c : Dev Cert.KernelIdeal.nD) :
    Cert.ReferenceIdeal.Read.val_main_v71 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.Vmf.result m c := by
  refine funext fun (i : Cert.ReferenceIdeal.S131072.Idx) => ?_
  obtain ⟨n, rfl⟩ : ∃ n : Fin 131072, i = ix1 n := ⟨i 0, eq_ix1 i⟩
  exact (Cert.Vmf.Reference.density_apply _ _ _ _ n).trans (Cert.Vmf.density_eq _
    (fun d => Cert.Vmf.Domain.finite_points (h c).1 n d)
    (fun j => Cert.Vmf.Domain.nonzero_locations (h c).2.2 j)
    (fun j => Cert.Vmf.Domain.bounded_logScales (h c).2.1 j))

/-- On the domain the kernel and the reference end with the same result array. -/
theorem algebraic : Cert.algebraic_KernelIdeal_ReferenceIdeal_pre_in_domain := by
  intro m ρ m' ρ' hdomain hagree
  refine ⟨fun c => Cert.Vmf.result m c, Cert.Vmf.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2]
  exact result_eq m hdomain c

/-- All the claims. -/
theorem claim : Cert.Claim :=
  ⟨Cert.Kernel.Gen.facts, Cert.KernelIdeal.Gen.facts, Cert.ReferenceIdeal.Gen.facts, Cert.Pre_in_domain.Gen.facts,
    frame_kernel, frame_ideal, frame_ideal_domain, frame_reference, frame_reference_domain, preserves, algebraic⟩

end Cert.Proof

end
